-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_nonzero [hPre_scale_nonzero : Cert.Pre_scale_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_scale_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_nonzero [hPre_scale_nonzero : Cert.Pre_scale_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scale_nonzero [hKernelIdeal : Cert.KernelIdeal.Facts] [hPre_scale_nonzero : Cert.Pre_scale_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scale_nonzero [hReferenceIdeal : Cert.ReferenceIdeal.Facts] [hPre_scale_nonzero : Cert.Pre_scale_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scale_nonzero [hKernelIdeal : Cert.KernelIdeal.Facts] [hReferenceIdeal : Cert.ReferenceIdeal.Facts] [hPre_scale_nonzero : Cert.Pre_scale_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scale_nonzero : Cert.Pre_scale_nonzero.Facts),
    quiescent_Kernel (hKernel := hKernel)
    ∧ quiescent_KernelIdeal (hKernelIdeal := hKernelIdeal)
    ∧ quiescent_KernelIdeal_pre_scale_nonzero (hKernelIdeal := hKernelIdeal) (hPre_scale_nonzero := hPre_scale_nonzero)
    ∧ quiescent_ReferenceIdeal (hReferenceIdeal := hReferenceIdeal)
    ∧ quiescent_ReferenceIdeal_pre_scale_nonzero (hReferenceIdeal := hReferenceIdeal) (hPre_scale_nonzero := hPre_scale_nonzero)
    ∧ preserves_Kernel_KernelIdeal
    ∧ algebraic_KernelIdeal_ReferenceIdeal_pre_scale_nonzero (hKernelIdeal := hKernelIdeal) (hReferenceIdeal := hReferenceIdeal) (hPre_scale_nonzero := hPre_scale_nonzero)
-- ==== Pre_scale_nonzero.lean ====
abbrev S8191 : Shape := ⟨1, ![8191]⟩
abbrev S_ : Shape := ⟨0, ![]⟩

class Facts : Prop where

variable [Facts]

def fn {F : FTy → Type} [FloatOps F] (main_arg0 : FVec F S8191 .f32) (main_arg1 : FVec F S_ .f32) : IVec S_ 1 :=
  let main_cst : FVec F S_ .f32 := constant S_ .f32 0x00000000#32
  let main_v0 : IVec S_ 1 := cmpf .une main_arg1 main_cst
  main_v0
-- ==== Kernel.lean ====
abbrev S8191 : Shape := ⟨1, ![8191]⟩
abbrev S_ : Shape := ⟨0, ![]⟩
abbrev S1 : Shape := ⟨1, ![1]⟩
abbrev S2x128 : Shape := ⟨2, ![2, 128]⟩
abbrev S2 : Shape := ⟨1, ![2]⟩
abbrev S1x128 : Shape := ⟨2, ![1, 128]⟩
abbrev S128 : Shape := ⟨1, ![128]⟩
abbrev S41x41 : Shape := ⟨2, ![41, 41]⟩
abbrev S64x128 : Shape := ⟨2, ![64, 128]⟩
abbrev S1x23 : Shape := ⟨2, ![1, 23]⟩
abbrev S1x18 : Shape := ⟨2, ![1, 18]⟩
abbrev S1x41 : Shape := ⟨2, ![1, 41]⟩
abbrev S41x1 : Shape := ⟨2, ![41, 1]⟩
abbrev S41 : Shape := ⟨1, ![41]⟩
abbrev S1x87 : Shape := ⟨2, ![1, 87]⟩
abbrev S64x128x1 : Shape := ⟨3, ![64, 128, 1]⟩
abbrev S8192 : Shape := ⟨1, ![8192]⟩

abbrev nBuf : Space → Nat
  | .hbm => 4
  | .vmem => 2
  | .smem => 1
  | _ => 0

abbrev bufTy : (tb : Table) → Fin (tcTables nBuf tb) → BufTy
  | .hbm, ⟨0, _⟩ => ⟨S8191, .f32⟩
  | .hbm, ⟨1, _⟩ => ⟨S_, .f32⟩
  | .hbm, ⟨2, _⟩ => ⟨S1, .f32⟩
  | .hbm, ⟨3, _⟩ => ⟨S8191, .f32⟩
  | .local _ .vmem, ⟨0, _⟩ => ⟨S8191, .f32⟩
  | .local _ .vmem, ⟨1, _⟩ => ⟨S2x128, .f32⟩
  | .local _ .smem, ⟨0, _⟩ => ⟨S1, .f32⟩
  | _, _ => ⟨S8191, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8191 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8191 : Shape := ⟨1, ![8191]⟩
abbrev S_ : Shape := ⟨0, ![]⟩
abbrev S40 : Shape := ⟨1, ![40]⟩
abbrev S1 : Shape := ⟨1, ![1]⟩
abbrev S41 : Shape := ⟨1, ![41]⟩
abbrev S4118 : Shape := ⟨1, ![4118]⟩
abbrev S8191x1 : Shape := ⟨2, ![8191, 1]⟩
abbrev S1x41 : Shape := ⟨2, ![1, 41]⟩
abbrev S8191x41 : Shape := ⟨2, ![8191, 41]⟩
abbrev S8191x41x1 : Shape := ⟨3, ![8191, 41, 1]⟩

abbrev nBuf : Space → Nat
  | .hbm => 77
  | .vmem => 0
  | .smem => 0
  | _ => 0

abbrev bufTy : (tb : Table) → Fin (tcTables nBuf tb) → BufTy
  | .hbm, ⟨0, _⟩ => ⟨S8191, .f32⟩
  | .hbm, ⟨1, _⟩ => ⟨S_, .f32⟩
  | .hbm, ⟨2, _⟩ => ⟨S_, .i32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S40, .f32⟩
  | .hbm, ⟨10, _⟩ => ⟨S_, .f32⟩
  | .hbm, ⟨11, _⟩ => ⟨S40, .f32⟩
  | .hbm, ⟨12, _⟩ => ⟨S40, .f32⟩
  | .hbm, ⟨13, _⟩ => ⟨S1, .f32⟩
  | .hbm, ⟨14, _⟩ => ⟨S_, .f32⟩
  | .hbm, ⟨15, _⟩ => ⟨S40, .f32⟩
  | .hbm, ⟨16, _⟩ => ⟨S40, .f32⟩
  | .hbm, ⟨17, _⟩ => ⟨S40, .f32⟩
  | .hbm, ⟨18, _⟩ => ⟨S40, .f32⟩
  | .hbm, ⟨19, _⟩ => ⟨S1, .f32⟩
  | .hbm, ⟨20, _⟩ => ⟨S40, .f32⟩
  | .hbm, ⟨21, _⟩ => ⟨S40, .f32⟩
  | .hbm, ⟨22, _⟩ => ⟨S40, .f32⟩
  | .hbm, ⟨23, _⟩ => ⟨S1, .f32⟩
  | .hbm, ⟨24, _⟩ => ⟨S41, .f32⟩
  | .hbm, ⟨25, _⟩ => ⟨S41, .f32⟩
  | .hbm, ⟨26, _⟩ => ⟨S41, .f32⟩
  | .hbm, ⟨27, _⟩ => ⟨S41, .f32⟩
  | .hbm, ⟨28, _⟩ => ⟨S41, .f32⟩
  | .hbm, ⟨29, _⟩ => ⟨S41, .f32⟩
  | .hbm, ⟨30, _⟩ => ⟨S41, .f32⟩
  | .hbm, ⟨31, _⟩ => ⟨S41, .f32⟩
  | .hbm, ⟨32, _⟩ => ⟨S4118, .f32⟩
  | .hbm, ⟨33, _⟩ => ⟨S41, .f32⟩
  | .hbm, ⟨34, _⟩ => ⟨S8191, .i32⟩
  | .hbm, ⟨35, _⟩ => ⟨S8191x1, .i32⟩
  | .hbm, ⟨36, _⟩ => ⟨S41, .i32⟩
  | .hbm, ⟨37, _⟩ => ⟨S1x41, .i32⟩
  | .hbm, ⟨38, _⟩ => ⟨S8191x41, .i32⟩
  | .hbm, ⟨39, _⟩ => ⟨S8191x41, .i32⟩
  | .hbm, ⟨40, _⟩ => ⟨S8191x41, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S8191x41, .i32⟩
  | .hbm, ⟨48, _⟩ => ⟨S8191x41, .i32⟩
  | .hbm, ⟨49, _⟩ => ⟨S_, .i32⟩
  | .hbm, ⟨50, _⟩ => ⟨S8191x41, .i32⟩
  | .hbm, ⟨51, _⟩ => ⟨S8191x41, .i1⟩
  | .hbm, ⟨52, _⟩ => ⟨S_, .i32⟩
  | .hbm, ⟨53, _⟩ => ⟨S8191x41, .i32⟩
  | .hbm, ⟨54, _⟩ => ⟨S8191x41, .i1⟩
  | .hbm, ⟨55, _⟩ => ⟨S_, .i32⟩
  | .hbm, ⟨56, _⟩ => ⟨S_, .i1⟩
  | .hbm, ⟨57, _⟩ => ⟨S8191x41, .i1⟩
  | .hbm, ⟨58, _⟩ => ⟨S8191x41, .i1⟩
  | .hbm, ⟨59, _⟩ => ⟨S8191x41, .i1⟩
  | .hbm, ⟨60, _⟩ => ⟨S8191x41, .i32⟩
  | .hbm, ⟨61, _⟩ => ⟨S8191x41, .i32⟩
  | .hbm, ⟨62, _⟩ => ⟨S8191x41, .i32⟩
  | .hbm, ⟨63, _⟩ => ⟨S_, .i32⟩
  | .hbm, ⟨64, _⟩ => ⟨S8191x41, .i32⟩
  | .hbm, ⟨65, _⟩ => ⟨S8191x41, .i1⟩
  | .hbm, ⟨66, _⟩ => ⟨S_, .i32⟩
  | .hbm, ⟨67, _⟩ => ⟨S8191x41, .i32⟩
  | .hbm, ⟨68, _⟩ => ⟨S8191x41, .i32⟩
  | .hbm, ⟨69, _⟩ => ⟨S8191x41, .i32⟩
  | .hbm, ⟨70, _⟩ => ⟨S8191x41x1, .i32⟩
  | .hbm, ⟨71, _⟩ => ⟨S8191x41, .f32⟩
  | .hbm, ⟨72, _⟩ => ⟨S1x41, .f32⟩
  | .hbm, ⟨73, _⟩ => ⟨S8191x41, .f32⟩
  | .hbm, ⟨74, _⟩ => ⟨S8191x41, .f32⟩
  | .hbm, ⟨75, _⟩ => ⟨S_, .f32⟩
  | .hbm, ⟨76, _⟩ => ⟨S8191, .f32⟩
  | _, _ => ⟨S8191, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v17 : Ref sig .tc := ⟨.hbm, 62, rfl⟩
abbrev main_c_2 : Ref sig .tc := ⟨.hbm, 63, rfl⟩
abbrev main_v18 : Ref sig .tc := ⟨.hbm, 64, rfl⟩
abbrev main_v19 : Ref sig .tc := ⟨.hbm, 65, rfl⟩
abbrev main_c_3 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst : Ref sig .tc := ⟨.hbm, 75, rfl⟩
abbrev main_v28 : Ref sig .tc := ⟨.hbm, 76, rfl⟩

abbrev nD : Nat := 1
abbrev τ : Topo := Topo.v7x

variable {F : FTy → Type} [FloatOps F]
-- ==== Proof.KernelRun.lean ====
/- The run of the dilation kernel's body, hand-written: the two row copies into scratch, the scratch read back as rows of
   the signal whatever it held before, and the body's triple with its output named. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow
public import Idealize.ShloMosaic.Lib.ValueIdx
public import Idealize.ShloMosaic.Lib.ViewIndex

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## What the body computes -/

/-- The two rows of 128 samples the body copies into scratch: samples 3968 to 4095 and 4096 to 4223 of the signal. -/
def rows (x : Vec F S8191 .f32) : Vec F S2x128 .f32 :=
  fun i => x (ix1 ⟨3968 + 128 * (i 0).val + (i 1).val, by have := idx2_lt0 i; have := idx2_lt1 i; omega⟩)

/-- The body's output, from the scale word it loads and the signal. -/
def result (s : Elt F .f32) (x : Vec F S8191 .f32) : Vec F S8191 .f32 :=
  k0_pay1 k0_pay3 (k0_pay4 (k0_pay2 s) (Scalar.ofBits .f32 0x00000000#32) (rows x))

/-! ## The scratch read back -/

/-- A write through row `k` of a 2 by 128 view, squeezed to a vector, is read back through the whole view as the payload on
that row and as what was there before on the other. -/
theorem read_write_row {Val : EltTy → Type} {κ : Kind} {sp : Space} (v : View sig κ sp S2x128 .f32) (k : ℕ)
    (inb : ∀ a, (![k, 0] : Fin 2 → ℕ) a + S1x128.size a ≤ S2x128.size a)
    (h : S128.numel = (Rect.unit (s := S2x128) ![k, 0] S1x128.size inb).shape.numel)
    (f : v.ty.Contents Val) (w : S128.Idx → Val .f32) (y : S2x128.Idx) :
    v.read Val (((v.slice (Rect.unit (s := S2x128) ![k, 0] S1x128.size inb)).reshape S128 h).write Val f w Finset.univ) y
      = if (y 0).val = k then w (ix1 (y 1)) else v.read Val f y := by
  have hemb : ∀ x : S128.Idx, ∀ a, ((Rect.unit (s := S2x128) ![k, 0] S1x128.size inb).emb (Shape.reshapeEquiv h x) a).val
      = (![k, (x 0).val] : Fin 2 → ℕ) a := by
    intro x a
    rw [Shape.reshapeEquiv_cons_one (d := ![128]) h x]
    match a with
    | ⟨0, _⟩ => show k + 1 * 0 = k; omega
    | ⟨1, _⟩ => show 0 + 1 * (x 0).val = (x 0).val; omega
  by_cases hy : (y 0).val = k
  · rw [if_pos hy]
    have e : y = (Rect.unit (s := S2x128) ![k, 0] S1x128.size inb).emb (Shape.reshapeEquiv h (ix1 (y 1))) := by
      funext a
      refine Fin.ext ((hemb _ a).trans ?_).symm
      match a with
      | ⟨0, _⟩ => exact hy.symm
      | ⟨1, _⟩ => rfl
    conv_lhs => rw [e]
    exact View.read_write_of_mem (v := (v.slice (Rect.unit (s := S2x128) ![k, 0] S1x128.size inb)).reshape S128 h) f w
      (Finset.mem_univ (ix1 (y 1)))
  · rw [if_neg hy, View.read_apply, View.read_apply, View.write_of_not_mem]
    intro hm
    obtain ⟨x, -, hx⟩ := Finset.mem_map.mp hm
    have hx' : (Rect.unit (s := S2x128) ![k, 0] S1x128.size inb).emb (Shape.reshapeEquiv h x) = y := v.emb.injective hx
    exact hy (by rw [← hx']; exact hemb x 0)

/-- The samples a copy of 128 of them from offset `o` carries. -/
theorem read_samples (x : Vec F S8191 .f32) (o : ℕ) (inb : ∀ a, (![o] : Fin 1 → ℕ) a + S128.size a ≤ S8191.size a)
    (hs) (ho : o + 128 ≤ 8191) (l : Fin 128) :
    View.read (Elt F) ((Memref.whole main_arg0).slice (Rect.unit (s := S8191) ![o] S128.size inb) hs).view x (ix1 l)
      = x (ix1 ⟨o + l.val, by omega⟩) := by
  refine congrArg x (Shape.idx1_ext ?_)
  show o + 1 * l.val = o + l.val
  omega

/-- The scratch, loaded whole once both copies have landed, is the two rows of samples, whatever it held before. -/
theorem load_rows (arg3 : Memref sig .tc .vmem S2x128 .f32) (x : Vec F S8191 .f32) (g : arg3.view.ty.Contents (Elt F))
    (inb0 inb1) (hs0 hs1) (hq) (inb) (w0 w1 : S128.Idx → Elt F .f32)
    (h0 : ∀ l : Fin 128, w0 (ix1 l) = x (ix1 ⟨3968 + l.val, by omega⟩))
    (h1 : ∀ l : Fin 128, w1 (ix1 l) = x (ix1 ⟨4096 + l.val, by omega⟩)) :
    View.readAt (Elt F) arg3.view (Rect.unit (s := S2x128) ![0, 0] S2x128.size inb).toLoadRect
      (View.write (Elt F) ((arg3.slice (Rect.unit (s := S2x128) ![1, 0] S1x128.size inb1) hs1).squeeze S128 hq).view
        (View.write (Elt F) ((arg3.slice (Rect.unit (s := S2x128) ![0, 0] S1x128.size inb0) hs0).squeeze S128 hq).view
          g w0 Finset.univ) w1 Finset.univ)
      = rows x := by
  rw [View.readAt_full arg3.view _ (off := ![0, 0])]
  funext y
  refine (read_write_row arg3.view 1 _ _ _ _ y).trans ?_
  rw [show View.read (Elt F) arg3.view (View.write (Elt F)
      ((arg3.slice (Rect.unit (s := S2x128) ![0, 0] S1x128.size inb0) hs0).squeeze S128 hq).view g w0 Finset.univ) y = _
    from read_write_row arg3.view 0 _ _ _ _ y]
  have hy := idx2_lt0 y
  unfold rows
  split_ifs with e1 e0
  · refine (h1 (y 1)).trans (congrArg x (congrArg ix1 (Fin.ext ?_))); show 4096 + (y 1).val = 3968 + 128 * (y 0).val + (y 1).val; omega
  · refine (h0 (y 1)).trans (congrArg x (congrArg ix1 (Fin.ext ?_))); show 3968 + (y 1).val = 3968 + 128 * (y 0).val + (y 1).val; omega
  · omega

/-! ## The staging and scratch memrefs -/

/-- Each window's staging memref at a point, whole. -/
abbrev ms0_0 (t : Fin cfg0.N) : Memref sig .tc .smem S1 .f32 := win0_0.stage (cfg0.slots t 0)
abbrev ms0_1 (t : Fin cfg0.N) : Memref sig .tc .vmem S8191 .f32 := win0_1.stage (cfg0.slots t 1)
/-- The scratch operand, a whole scoped buffer. -/
abbrev scM0_0 : Memref sig .tc .vmem S2x128 .f32 := Memref.whole cc0_scratch0
/-- The signal, left in HBM, which the body copies rows of itself. -/
abbrev hbM0_0 : Memref sig .tc .hbm S8191 .f32 := Memref.whole main_arg0
/-- A memref's buffer on core `c`: the type of its contents, and the buffer held whole at contents `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-! ## The run -/

set_option sl_exec.dmaWindow true in
set_option sl_exec.dmaWindowSet true in
set_option sl_exec.squeezeSlice true in
set_option maxHeartbeats 1000000 in
/-- The body's triple: from the scale's block, any output and scratch contents, the body's two cells at zero and the signal,
the body runs to a continuation holding `result` of the scale and the signal in the output, and everything else as it was
(the scratch at some contents). -/
theorem kernelRun (c : Dev nD) (arg0 : Memref sig .tc .smem S1 .f32) (harg0 : arg0.IsWhole) (arg2 : Memref sig .tc .vmem S8191 .f32) (harg2 : arg2.IsWhole) (arg3 : Memref sig .tc .vmem S2x128 .f32) (harg3 : arg3.IsWhole)
    (x0 : Vec F S1 .f32) (fh0 : HbBuf0 (F := F) c hbM0_0) :
      ∀ (W : Waits sig Unit) (K : PUnit → sProp 𝕄),
        iprop(owns (c : Thread nD τ) arg0 fullShare x0 ∗ (∃ d, owns (c : Thread nD τ) arg2 fullShare d) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ owes (c : Thread nD τ) 0 W
            ∗ (iprop(owns (c : Thread nD τ) arg0 fullShare x0 ∗ owns (c : Thread nD τ) arg2 fullShare (result (x0 (ix1 0)) fh0) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ (∃ W', owes (c : Thread nD τ) 0 W')) -∗ K ⟨⟩))
          ⊢ wp frame (wpE (defs₀ (F := F)) Variants.none c none) Set.univ (cc0__dilate_kernel arg0 harg0 (Memref.whole main_arg0) (Memref.isWhole_whole _) arg2 harg2 arg3 harg3 cc0_scratch1) K := by
    intro W K
    simp only [cc0__dilate_kernel_eq_skeleton]; unfold cc0__dilate_kernel_skel
    simp only [k0_part1_eq_skeleton, k0_part2_eq_skeleton]
    unfold owns
    iintro ⟨⟨%f0, %hf0, H0⟩, ⟨%d1, %f1, -, H1⟩, ⟨%ds0, %fs0, -, HS0⟩, Hq0, Hq1, Hh0, HW, Hk⟩
    obtain rfl := harg0.eq_unread hf0
    sl_exec
    sl_step
    iapply Hk
    isplitl [H0]
    · iexists _; isplitr; · ipureintro; exact harg0.read_unread _
      iexact H0
    isplitl [H1]
    · iexists _; isplitr; swap; · iexact H1
      ipureintro
      refine (View.read_writes_full arg2.view f1 _ _ []).trans ?_
      unfold result
      refine congrArg (k0_pay1 k0_pay3) ?_
      show k0_pay4 (k0_pay2 _) _ _ = _
      congr 1
      · refine congrArg k0_pay2 ((harg0.readAt_unread x0 _ _).trans (congrArg x0 ?_))
        funext a
        obtain rfl : a = 0 := Subsingleton.elim _ _
        exact Subsingleton.elim (α := Fin 1) _ _
      · exact load_rows arg3 fh0 fs0 _ _ _ _ _ _ _ _ (fun l => read_samples fh0 3968 _ _ (by decide) l) (fun l => read_samples fh0 4096 _ _ (by decide) l)
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.KernelIdeal.Hand

end
-- ==== Proof.KernelFrame.lean ====
/- The launch of the dilation kernel, hand-written: the proof data with the output named, the body obligation, and the run
   of the whole program with its result, its arguments and its counters. -/
module

public import proofs.«01_k».proof.Proof.KernelRun
public import Idealize.ShloMosaic.Lib.Claim
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own cells and operands -/

/-- The body's two copy semaphores. -/
abbrev osem0 : Fin 2 → SemLoc sig := fun j => (![SemLoc.dma 2, SemLoc.dma 3] : Fin 2 → SemLoc sig) j
/-- Neither is a window's. -/
theorem ownSemFacts0 : Pipeline.OwnSemFacts spec0 osem0 := by decide
/-- The two cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
/-- The one HBM operand the body reads itself: the signal. -/
def H0 : Finset (Ref sig .tc) := {main_arg0}
/-- It is unscoped and no window's array. -/
theorem H0_sub : H0 ⊆ Pipeline.restRefs sig spec0 := by decide
/-- It is held at its contents at the region's entry. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl
/-- The invariant, conjunct by conjunct: the scratch at some contents, the generator register, the two cells at zero, the
signal. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 2) 0 ∗ semVal ((c : Thread nD τ), SemLoc.dma 3) 0) ∗ iprop(hbPt0 c hbM0_0 (V m c main_arg0))) := by
  rw [Pipeline.ΦD_eq, scopedRest0_eq, ownSems00_eq, hbmPts0_eq]; simp only [scM0_0, owns_whole]; try rfl

/-! ## The proof data -/

/-- The proof data on core `c`: the arrays as the region finds them, the scale's block left in place, the output at `result`
of the scale's block and the signal. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => result (iblk m c 0 t (ValueIdx.ix1 0)) (V m c main_arg0)
  Φ _ := Pipeline.ΦD osem0 spec0 H0 (V m) c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves in the scale's window, -/
theorem after0_0 (c : Dev nD) (t : Fin cfg0.N) : (dats m 0 c).after 0 t = iblk m c 0 t := by dsimp only [dats]

/-- and in the output's. -/
theorem after0_1 (c : Dev nD) (t : Fin cfg0.N) :
    (dats m 0 c).after 1 t = result (iblk m c 0 t (ValueIdx.ix1 0)) (V m c main_arg0) := by dsimp only [dats]

/-- The scale's staging buffer holds its block when the body is called. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)

/-! ## The body obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at a point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl, after0_0, after0_1]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨HS0, Hg, ⟨Hq0, Hq1⟩, Hh0⟩, ⟨%W, -, HW⟩, ⟨%d0, H0⟩, ⟨%d1, H1⟩⟩
  iapply ((kernelRun c _ _ _ _ _ _ (iblk m c 0 t) (V m c main_arg0)) W _)
  isplitl [H0]; · iexact H0
  isplitl [H1]; · iexists _; iexact H1
  isplitl [HS0]; · iexact HS0
  isplitl [Hq0]; · iexact Hq0
  isplitl [Hq1]; · iexact Hq1
  isplitl [Hh0]; · iexact Hh0
  isplitl [HW]; · iexact HW
  iintro ⟨H0, H1, HS0, Hq0, Hq1, Hh0, ⟨%W', HW'⟩⟩
  isplitl [HS0 Hg Hq0 Hq1 Hh0]
  · isplitl [HS0]
    · iexact HS0
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  iexact H1

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- @main up to the region, for this certificate's ghost state. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The launch: the program runs to the arrays the proof data leaves, every counter back at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := fun _ => .rfl) (hout := fun _ => .rfl)

/-! ## The result array -/

/-- What device `c`'s result array is shown to hold: `result` of the scale and the signal. -/
def out (c : Dev nD) : Buf (Elt F) ((c : Thread nD τ).loc main_v1) :=
  result (F := F) (m ((c : Thread nD τ).loc main_arg1) ValueIdx.ix0) (m ((c : Thread nD τ).loc main_arg0))

/-- The scale's block is the scale argument. -/
theorem iblk_scale (c : Dev nD) (t : Fin cfg0.N) : iblk m c 0 t (ValueIdx.ix1 0) = m ((c : Thread nD τ).loc main_arg1) ValueIdx.ix0 := by
  unfold iblk
  show V m c main_v0 _ = _
  simp only [V, hostOps0]
  rw [StableHlo.after_cons, StableHlo.after_nil]
  rw [StableHlo.reshape_result]
  exact congrArg (m ((c : Thread nD τ).loc main_arg1)) (ValueIdx.eq_ix0 _)

/-- The result array ends at `out`. -/
theorem final_out (c : Dev nD) : (dats m 0 c).arrAt 1 cfg0.N = out m c := by
  refine (dats m 0 c).arrAt_eq_of_after_last 1 t0_0 (by decide +kernel) _ fun j => ?_
  blk_simp
  rw [after0_1, iblk_scale, V_main_arg0]
  rfl

/-- The run read: the result at `out`, the arguments unchanged, every counter at zero. -/
theorem run : θ_run defs (onTc (τ := τ) (main (F := F))) ⟨m, fun _ => 0, ρ⟩ (fun r => (∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 1).trans (final_out m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)
    (run_main m ρ)

end Cert.KernelIdeal.Hand

end
-- ==== Proof.PrintedFrame.lean ====
/- The frame of the kernel as printed. Its text is the idealized program's text, so the two programs are one up to their names, and
   its run is the idealized program's run, which is stated for any reading of the floats. -/
module

public import proofs.«01_k».proof.Proof.KernelFrame
public import proofs.«01_k».proof.Proof.Gen.Kernel
public import Idealize.ShloMosaic.Lib.StableHlo.RunHlo

@[expose] public section

set_option maxRecDepth 100000

noncomputable section

namespace Cert.Kernel.Hand

open Idealize.ShloMosaic Idealize.SL.Sem

/-- The two programs' body tables are the same: label by label, the same body. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg _ (funext fun ℓ => ?_)
  match ℓ with
  | ⟨0, _⟩ => funext ⟨t, s⟩; with_unfolding_all rfl
  | ⟨_ + 1, h⟩ => exact absurd h (Nat.not_lt.2 (Nat.le_add_left _ _))

/-- The printed kernel runs, leaves its arguments as they were and every counter at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have key : ∀ d, d = @Cert.Kernel.defs₀ Bits _ Cert.Kernel.Gen.facts →
      θ_run (Pipeline.defs (Cert.Kernel.pcfgs (F := Bits)) d) (onTc (τ := Cert.Kernel.τ) (Cert.Kernel.main (F := Bits))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) →
      θ_run (Pipeline.defs (Cert.Kernel.pcfgs (F := Bits)) (@Cert.Kernel.defs₀ Bits _ Cert.Kernel.Gen.facts)) (onTc (τ := Cert.Kernel.τ) (Cert.Kernel.main (F := Bits))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := fun d e h => e ▸ h
  refine key (@Cert.KernelIdeal.defs₀ Bits _ Cert.KernelIdeal.Gen.facts) bodies_eq.symm ?_
  with_unfolding_all exact θ_run_mono (Cert.KernelIdeal.Hand.run (F := Bits) m g) fun _ h => ⟨fun c => ⟨(h.1 c).2.1, (h.1 c).2.2⟩, h.2⟩

end Cert.Kernel.Hand

end
-- ==== Proof.Words.lean ====
/- Words of the two programs: what the printed remainder by 41, with its correction for a negative operand, gives on the words
   that meet it. -/
module

public import Idealize.ShloMosaic.Lib.Routing.Words

@[expose] public section

namespace Cert.Words

open Idealize.ShloMosaic

/-- The printed remainder by 41: the truncating remainder, with 41 added where it is negative. The sign test is spelt with an
exclusive or in the kernel. -/
def kernelMod (u : ArithUnit) (w : BitVec 32) : BitVec 32 :=
  Scalar.select (IntOp.andi (IntOp.xori (IntOp.cmpi .slt (IntOp.remsi u w 41#32) 0#32) (IntOp.cmpi .slt 41#32 0#32))
    (IntOp.cmpi .ne (IntOp.remsi u w 41#32) 0#32)) (IntOp.addi (IntOp.remsi u w 41#32) 41#32) (IntOp.remsi u w 41#32)

/-- The same remainder as the reference spells it, with an inequality of the two sign bits, and with 41 added once more should
the outcome still be negative. -/
def hostMod (w : BitVec 32) : BitVec 32 :=
  let r := IntOp.remsi .host w 41#32
  let q := Scalar.select (IntOp.andi (IntOp.cmpi .ne (IntOp.cmpi .slt r 0#32) (IntOp.cmpi .slt 41#32 0#32))
    (IntOp.cmpi .ne r 0#32)) (IntOp.addi r 41#32) r
  Scalar.select (IntOp.cmpi .slt q 0#32) (IntOp.addi q 41#32) q

/-- The word 41, as both programs come by it: 41 unless it is zero. -/
theorem fortyOne : Scalar.select (IntOp.cmpi .eq 41#32 0#32) 1#32 41#32 = 41#32 := by decide

/-- The correction leaves each of the words 0 to 40 alone, in the kernel's spelling. -/
theorem kernel_fix (n : Fin 41) : Scalar.select (IntOp.andi (IntOp.xori (IntOp.cmpi .slt (BitVec.ofNat 32 n.val) 0#32)
    (IntOp.cmpi .slt 41#32 0#32)) (IntOp.cmpi .ne (BitVec.ofNat 32 n.val) 0#32)) (IntOp.addi (BitVec.ofNat 32 n.val) 41#32)
    (BitVec.ofNat 32 n.val) = BitVec.ofNat 32 n.val := by
  revert n; decide

/-- The corrections leave each of the words 0 to 40 alone, in the reference's spelling. -/
theorem host_fix (n : Fin 41) :
    (let q := Scalar.select (IntOp.andi (IntOp.cmpi .ne (IntOp.cmpi .slt (BitVec.ofNat 32 n.val) 0#32) (IntOp.cmpi .slt 41#32 0#32))
      (IntOp.cmpi .ne (BitVec.ofNat 32 n.val) 0#32)) (IntOp.addi (BitVec.ofNat 32 n.val) 41#32) (BitVec.ofNat 32 n.val)
    Scalar.select (IntOp.cmpi .slt q 0#32) (IntOp.addi q 41#32) q) = BitVec.ofNat 32 n.val := by
  revert n; decide

/-- On the word of a natural number the kernel's remainder is the word of the number's remainder. -/
theorem kernelMod_ofNat (u : ArithUnit) {n : ℕ} (hn : n < 2 ^ 31) : kernelMod u (BitVec.ofNat 32 n) = BitVec.ofNat 32 (n % 41) := by
  have h := Routing.remsi_word u hn (b := 41) (by omega) (by omega)
  unfold kernelMod
  rw [h]
  exact kernel_fix ⟨n % 41, Nat.mod_lt _ (by omega)⟩

/-- On the word of a natural number the reference's remainder is the word of the number's remainder. -/
theorem hostMod_ofNat {n : ℕ} (hn : n < 2 ^ 31) : hostMod (BitVec.ofNat 32 n) = BitVec.ofNat 32 (n % 41) := by
  have h := Routing.remsi_word .host hn (b := 41) (by omega) (by omega)
  unfold hostMod
  rw [h]
  exact host_fix ⟨n % 41, Nat.mod_lt _ (by omega)⟩

/-- On the word of minus `n`, for `n` from 1 to 40, the kernel's remainder is the word of `41 - n`. -/
theorem kernelMod_neg (n : Fin 41) (h : 0 < n.val) : kernelMod .vector (-BitVec.ofNat 32 n.val) = BitVec.ofNat 32 (41 - n.val) := by
  revert n; decide

/-- The kernel's remainder of a difference of two taps is the word of their difference modulo 41. -/
theorem kernelMod_sub (a b : Fin 41) :
    kernelMod .vector (IntOp.subi (BitVec.ofNat 32 a.val) (BitVec.ofNat 32 b.val)) = BitVec.ofNat 32 ((a.val + 41 - b.val) % 41) := by
  have ha := a.isLt; have hb := b.isLt
  unfold IntOp.subi
  by_cases h : b.val ≤ a.val
  · have e : BitVec.ofNat 32 a.val - BitVec.ofNat 32 b.val = BitVec.ofNat 32 (a.val - b.val) := by
      apply BitVec.eq_of_toNat_eq; simp; omega
    rw [e, kernelMod_ofNat _ (by omega)]
    congr 1; omega
  · have e : BitVec.ofNat 32 a.val - BitVec.ofNat 32 b.val = -BitVec.ofNat 32 (b.val - a.val) := by
      apply BitVec.eq_of_toNat_eq; simp; omega
    rw [e, kernelMod_neg ⟨b.val - a.val, by omega⟩ (by show 0 < b.val - a.val; omega)]
    congr 1
    show 41 - (b.val - a.val) = _
    omega

/-- A tap's number less twenty, read off its word. -/
theorem centred (j : Fin 41) : (IntOp.subi (BitVec.ofNat 32 j.val) 20#32).toInt = (j.val : ℤ) - 20 := by
  revert j; decide

/-- The word of a small natural number, read signed. -/
theorem toInt_small {n : ℕ} (hn : n < 2 ^ 31) : (BitVec.ofNat 32 n).toInt = (n : ℤ) := by
  rw [BitVec.toInt_ofNat', Int.bmod_def]
  omega

end Cert.Words

end
-- ==== Proof.Taps.lean ====
/- The dilation as plain mathematics: each output is the greatest of forty-one samples, each lowered by the sixteenth power of
   its centred offset over the scale. Two orders of going round the forty-one samples are shown to give one maximum. -/
module

public import Idealize.ShloMosaic.Lib.Pointwise
public import Idealize.ShloMosaic.PureOps.Ideal.Laws

@[expose] public section

noncomputable section

namespace Cert.Taps

open Idealize.ShloMosaic

/-- The forty-one samples the operation reads: samples 4073 to 4113 of the signal. -/
def sample (x : FVec Ideal ⟨1, ![8191]⟩ .f32) (k : Fin 41) : EReal := x (ix1 ⟨4073 + k.val, by omega⟩)

/-- The sixteenth power by four squarings. -/
def power (q : EReal) : EReal :=
  q * q * (q * q) * (q * q * (q * q)) * (q * q * (q * q) * (q * q * (q * q)))

/-- The centred offset of tap `j`, from -20 to 20. -/
def offset (j : Fin 41) : EReal := (((j.val : ℝ) - 20 : ℝ) : EReal)

/-- What tap `j` adds to its sample: minus the sixteenth power of its offset over the scale. -/
def weight (s : EReal) (j : Fin 41) : EReal := -power (offset j * s⁻¹)

/-- The tap that reads sample `k` for output `a`. -/
def tapOf (a : ℕ) (k : Fin 41) : Fin 41 := ⟨(k.val + 41 - a % 41) % 41, Nat.mod_lt _ (by omega)⟩

/-- The sample that tap `j` reads for output `a`. -/
def sampleOf (a : ℕ) (j : Fin 41) : Fin 41 := ⟨(a + j.val) % 41, Nat.mod_lt _ (by omega)⟩

/-- The sample's tap reads that sample. -/
theorem sampleOf_tapOf (a : ℕ) (k : Fin 41) : sampleOf a (tapOf a k) = k := by
  apply Fin.ext
  show (a + (k.val + 41 - a % 41) % 41) % 41 = k.val
  omega

/-- The tap's sample is read by that tap. -/
theorem tapOf_sampleOf (a : ℕ) (j : Fin 41) : tapOf a (sampleOf a j) = j := by
  apply Fin.ext
  show ((a + j.val) % 41 + 41 - a % 41) % 41 = j.val
  omega

/-- The output at `a`: the greatest, over the taps, of the tap's sample plus the tap's weight. -/
def dilated (x : FVec Ideal ⟨1, ![8191]⟩ .f32) (s : EReal) (a : ℕ) : EReal :=
  Finset.univ.sup fun j : Fin 41 => sample x (sampleOf a j) + weight s j

/-- Going round by samples instead of by taps gives the same maximum. -/
theorem dilated_by_samples (x : FVec Ideal ⟨1, ![8191]⟩ .f32) (s : EReal) (a : ℕ) :
    (Finset.univ.sup fun k : Fin 41 => sample x k + weight s (tapOf a k)) = dilated x s a := by
  apply le_antisymm
  · refine Finset.sup_le fun k _ => ?_
    have h := Finset.le_sup (f := fun j : Fin 41 => sample x (sampleOf a j) + weight s j) (Finset.mem_univ (tapOf a k))
    rw [sampleOf_tapOf] at h
    exact h
  · refine Finset.sup_le fun j _ => ?_
    have h := Finset.le_sup (f := fun k : Fin 41 => sample x k + weight s (tapOf a k)) (Finset.mem_univ (sampleOf a j))
    rw [tapOf_sampleOf] at h
    exact h

/-- The word both programs start their maximum from is minus infinity. -/
theorem start : Ideal.ofBits .f32 4286578688#32 = ⊥ := by simp [Ideal.ofBits, Ideal.ieee]

/-- A quotient by a nonzero scale is a product with the scale's inverse. -/
theorem div_scale {s : EReal} (hs : s ≠ 0) (q : EReal) : Ideal.div q s = q * s⁻¹ := by rw [Ideal.div, if_neg hs]

/-- The grid of the reference: between -20 and 20 in fortieths. -/
theorem grid_point (j : ℝ) : ((-20 : ℝ) : EReal) * (1 - Ideal.div (j : EReal) ((40 : ℝ) : EReal)) + ((20 : ℝ) : EReal) * Ideal.div (j : EReal) ((40 : ℝ) : EReal)
    = ((j - 20 : ℝ) : EReal) := by
  rw [Ideal.div_coe (by norm_num), show (1 : EReal) = ((1 : ℝ) : EReal) from rfl]
  rw [← EReal.coe_mul, ← EReal.coe_sub, ← EReal.coe_mul, ← EReal.coe_mul, ← EReal.coe_add]
  exact congrArg _ (by ring)

end Cert.Taps

end
-- ==== Proof.KernelValue.lean ====
/- The kernel's output at an index, read down to plain mathematics. -/
module

public import proofs.«01_k».proof.Proof.KernelRun
public import proofs.«01_k».proof.Proof.Words
public import proofs.«01_k».proof.Proof.Taps

@[expose] public section

set_option maxRecDepth 16384

noncomputable section

namespace Cert.KernelIdeal.Hand

open Cert.KernelIdeal Cert.KernelIdeal.Gen Idealize.ShloMosaic

/-- The lane of the table that position `(a, b)` of the output block reads: its flat number modulo 41. -/
theorem lane_at (a : Fin 64) (b : Fin 128) : k0_pay3 (ix2 a b) = BitVec.ofNat 32 ((128 * a.val + b.val) % 41) := by
  have e : IntOp.addi (IntOp.muli (BitVec.ofNat 32 a.val) 128#32) (BitVec.ofNat 32 b.val) = BitVec.ofNat 32 (128 * a.val + b.val) := by
    unfold IntOp.addi IntOp.muli
    apply BitVec.eq_of_toNat_eq; simp; omega
  pointwise [k0_pay3]
  rw [show IntOp.addi (IntOp.muli (BitVec.ofNat 32 a.val) 128#32) (BitVec.ofNat 32 b.val) = _ from e]
  exact Words.kernelMod_ofNat .vector (by omega)

/-- The sixteenth power the kernel forms at row `k`, column `r`: that of the offset of tap `k - r` modulo 41, times the
reciprocal of the scale. -/
theorem power_at (s : Elt Ideal .f32) (k r : Fin 41) :
    k0_pay2 (F := Ideal) s (ix2 k r) = Taps.power (Taps.offset (Taps.tapOf r.val k) * Ideal.div 1 s) := by
  have e : (FloatOps.sitofp (F := Ideal) FTy.f32 (IntOp.subi (Words.kernelMod .vector (IntOp.subi (BitVec.ofNat 32 k.val) (BitVec.ofNat 32 r.val))) 20#32))
      = Taps.offset (Taps.tapOf r.val k) := by
    have hr : r.val % 41 = r.val := Nat.mod_eq_of_lt r.isLt
    rw [Words.kernelMod_sub]
    show ((((IntOp.subi (BitVec.ofNat 32 ((k.val + 41 - r.val) % 41)) 20#32).toInt : ℝ)) : EReal) = _
    have h := Words.centred (Taps.tapOf r.val k)
    unfold Taps.tapOf at h ⊢
    simp only [hr] at h ⊢
    rw [h]
    simp only [Taps.offset]
    push_cast
    rfl
  rw [← e]
  pointwise [k0_pay2]
  rfl

/-- The sum the kernel maximises at row `k`, column `r`: sample `k` of the forty-one, less the power there. -/
theorem sum_at (v : FVec Ideal S41x41 .f32) (c : Ideal .f32) (x : FVec Ideal S8191 .f32) (k r : Fin 41) :
    k0_pay4 (F := Ideal) v c (rows x) (ix2 k r) = Taps.sample x k + (c - v (ix2 k r)) := by
  pointwise [k0_pay4]
  congr 1
  unfold rows Taps.sample
  split
  · refine congrArg x (congrArg (ix1 (n0 := 8191)) (Fin.ext ?_))
    show 3968 + 128 * 0 + (105 + k.val) = 4073 + k.val
    omega
  · refine congrArg x (congrArg (ix1 (n0 := 8191)) (Fin.ext ?_))
    show 3968 + 128 * 1 + (k.val - 23) = 4073 + k.val
    omega

/-- The kernel's output at `a`, from the table of lanes and the sums: the maximum of the sums in column `a` modulo 41. -/
theorem maximum_at (t : FVec Ideal S41x41 .f32) (a : Fin 8191) :
    k0_pay1 (F := Ideal) k0_pay3 t (ix1 a) = Finset.univ.sup fun k : Fin 41 => t (ix2 k ⟨a.val % 41, Nat.mod_lt _ (by omega)⟩) := by
  have hl : k0_pay3 (ix2 ⟨a.val / 128, by omega⟩ ⟨a.val % 128, by omega⟩) = BitVec.ofNat 32 (a.val % 41) := by
    rw [lane_at]
    congr 2
    show 128 * (a.val / 128) + a.val % 128 = a.val
    omega
  have hs : ∀ n : Fin 41, (Scalar.select (IntOp.cmpi .slt (BitVec.ofNat 32 n.val) 0#32) (IntOp.addi (BitVec.ofNat 32 n.val) 128#32)
      (BitVec.ofNat 32 n.val)).toNat % 128 = n.val := by decide
  have h := hs ⟨a.val % 41, Nat.mod_lt _ (by omega)⟩
  pointwise [k0_pay1]
  simp only [hl, h, Taps.start]
  rw [dif_pos (Nat.mod_lt _ (by omega))]
  rfl

/-- The kernel's output at `a` is the dilation there, wherever the scale is not zero. -/
theorem result_at {s : EReal} (hs : s ≠ 0) (x : FVec Ideal S8191 .f32) (a : Fin 8191) :
    result (F := Ideal) s x (ix1 a) = Taps.dilated x s a.val := by
  unfold result
  rw [maximum_at, ← Taps.dilated_by_samples]
  refine Finset.sup_congr rfl fun k _ => ?_
  rw [sum_at, power_at]
  refine congrArg (Taps.sample x k + ·) ?_
  rw [Taps.div_scale hs, one_mul]
  have ht : Taps.tapOf (a.val % 41) k = Taps.tapOf a.val k := by unfold Taps.tapOf; simp only [Nat.mod_mod]
  show (Ideal.ofBits .f32 0x00000000#32 : EReal) - _ = _
  rw [show (Ideal.ofBits .f32 0x00000000#32 : EReal) = 0 by simp [Ideal.ofBits, Ideal.ieee], zero_sub]
  unfold Taps.weight
  rw [ht]

end Cert.KernelIdeal.Hand

end
-- ==== Proof.ReferenceValue.lean ====
/- The reference's output at an index, read down to plain mathematics: its term is named piece by piece, each piece is read at
   an index, and the pieces are put together. -/
module

public import proofs.«01_k».proof.Proof.Gen.ReferenceIdeal.Run
public import Idealize.ShloMosaic.Lib.ValueIdxCore
public import proofs.«01_k».proof.Proof.Words
public import proofs.«01_k».proof.Proof.Taps

@[expose] public section

set_option maxRecDepth 16384

noncomputable section

namespace Cert.ReferenceIdeal.Hand

open Cert.ReferenceIdeal Cert.ReferenceIdeal.Gen Idealize.ShloMosaic

/-! ## The pieces of the term -/

/-- The sum of a result index and a tap, before it is taken modulo 41. -/
def sumOf : IVec S8191x41 32 :=
  addi (broadcastInDim S8191x41 ![0, 1] bcast_S8191x1_S8191x41_0_1 (broadcastInDim S8191x1 ![0] bcast_S8191_S8191x1_0 (iotaInDim S8191 32 0)))
    (broadcastInDim S8191x41 ![0, 1] bcast_S1x41_S8191x41_0_1 (broadcastInDim S1x41 ![1] bcast_S41_S1x41_1 (iotaInDim S41 32 0)))

/-- The divisor 41, as the program comes by it. -/
def divisor : IVec S_ 32 :=
  select (cmpi .eq (id (constantI S_ 32 41#32)) (constantI S_ 32 0#32)) (constantI S_ 32 1#32) (id (constantI S_ 32 41#32))

/-- The truncating remainder of that sum by 41. -/
def remOf : IVec S8191x41 32 := Host.remsi sumOf (broadcastInDim S8191x41 ![] bcast_S_S8191x41 divisor)

/-- The remainder with 41 added where its sign is not the divisor's. -/
def modOf : IVec S8191x41 32 :=
  select (andi (cmpi .ne (cmpi .slt remOf (broadcastInDim S8191x41 ![] bcast_S_S8191x41 (constantI S_ 32 0#32)))
        (broadcastInDim S8191x41 ![] bcast_S_S8191x41 (cmpi .slt divisor (constantI S_ 32 0#32))))
      (cmpi .ne remOf (broadcastInDim S8191x41 ![] bcast_S_S8191x41 (constantI S_ 32 0#32))))
    (addi remOf (broadcastInDim S8191x41 ![] bcast_S_S8191x41 divisor)) remOf

/-- The position a tap reads: counted from the end where it is negative. -/
def posOf : IVec S8191x41 32 :=
  select (cmpi .slt modOf (broadcastInDim S8191x41 ![] bcast_S_S8191x41 (constantI S_ 32 0#32)))
    (addi modOf (broadcastInDim S8191x41 ![] bcast_S_S8191x41 (constantI S_ 32 41#32))) modOf

/-- The taps' numbers over forty, for the taps before the last. -/
def fraction : FVec Ideal S40 .f32 :=
  Host.divf (sitofp .f32 (iotaInDim S40 32 0)) (broadcastInDim S40 ![] bcast_S_S40 (constant S_ .f32 0x42200000#32))

/-- Forty-one evenly spaced points from -20 to 20. -/
def grid : FVec Ideal S41 .f32 :=
  concatenate S41 0 [⟨S40, addf
      (mulf (broadcastInDim S40 ![0] bcast_S1_S40_0 (shapeCast S1 (sitofp .f32 (constantI S_ 32 4294967276#32)) shapeCasts_S_S1))
        (subf (broadcastInDim S40 ![] bcast_S_S40 (constant S_ .f32 0x3F800000#32)) fraction))
      (mulf (broadcastInDim S40 ![0] bcast_S1_S40_0 (shapeCast S1 (sitofp .f32 (constantI S_ 32 20#32)) shapeCasts_S_S1)) fraction)⟩,
    ⟨S1, broadcastInDim S1 ![] bcast_S_S1 (sitofp .f32 (constantI S_ 32 20#32))⟩] concatenates_S40_S1_S41_d0

/-- The points over the scale. -/
def ratio (s : FVec Ideal S_ .f32) : FVec Ideal S41 .f32 := Host.divf grid (broadcastInDim S41 ![] bcast_S_S41 s)

/-- Their second powers. -/
def ratio2 (s : FVec Ideal S_ .f32) : FVec Ideal S41 .f32 := mulf (ratio s) (ratio s)

/-- Their fourth powers. -/
def ratio4 (s : FVec Ideal S_ .f32) : FVec Ideal S41 .f32 := mulf (ratio2 s) (ratio2 s)

/-- Their eighth powers. -/
def ratio8 (s : FVec Ideal S_ .f32) : FVec Ideal S41 .f32 := mulf (ratio4 s) (ratio4 s)

/-- Their sixteenth powers. -/
def ratio16 (s : FVec Ideal S_ .f32) : FVec Ideal S41 .f32 := mulf (ratio8 s) (ratio8 s)

/-- The forty-one samples read. -/
def samples (x : FVec Ideal S8191 .f32) : FVec Ideal S41 .f32 :=
  extractStridedSlice S41 ![0] (extractStridedSlice S4118 ![4073] x slices_S8191_S4118_4073) slices_S4118_S41_0

/-- The sample each tap reads for each output. -/
def read (x : FVec Ideal S8191 .f32) : FVec Ideal S8191x41 .f32 :=
  Host.gather gather_S41_S8191x41x1_S8191x41_n_0_n_n_0_2_1 (samples x) (broadcastInDim S8191x41x1 ![0, 1] bcast_S8191x41_S8191x41x1_0_1 posOf)

/-- The reference's result. -/
def value (x : FVec Ideal S8191 .f32) (s : FVec Ideal S_ .f32) : FVec Ideal S8191 .f32 :=
  Host.reduce FloatOps.maximumf (addf (read x) (broadcastInDim S8191x41 ![0, 1] bcast_S1x41_S8191x41_0_1
      (broadcastInDim S1x41 ![1] bcast_S41_S1x41_1 (Host.negf (ratio16 s)))))
    (constant S_ .f32 0xFF800000#32) reducesTo_S8191x41_S8191_d1 h_S_

/-- The term the run ends at is that composition of pieces. -/
theorem res_eq (m : (ℓ : Loc nD τ sig) → Buf (Elt Ideal) ℓ) (c : Dev nD) :
    Value.res_out0 m c = value (m ((c.tc : Thread nD τ).loc main_arg0)) (m ((c.tc : Thread nD τ).loc main_arg1)) := by
  unfold Value.res_out0 Value.res_main_v28
  rfl

/-! ## The pieces at an index -/

/-- Tap `j` of output `a` reads position `a + j` modulo 41. -/
theorem pos_at (a : Fin 8191) (j : Fin 41) : posOf (ix2 a j) = BitVec.ofNat 32 ((a.val + j.val) % 41) := by
  have e : IntOp.addi (BitVec.ofNat 32 a.val) (BitVec.ofNat 32 j.val) = BitVec.ofNat 32 (a.val + j.val) := by
    unfold IntOp.addi
    apply BitVec.eq_of_toNat_eq; simp
  pointwise [posOf, modOf, remOf, sumOf, divisor]
  simp only [e]
  exact Words.hostMod_ofNat (by omega)

/-- The points of the grid are the taps' centred offsets. -/
theorem grid_at (j : Fin 41) : grid (ix1 j) = Taps.offset j := by
  have h40 : Ideal.ofBits .f32 1109393408#32 = ((40 : ℝ) : EReal) := by
    simp [Ideal.ofBits, Ideal.ieee]; rw [← EReal.coe_mul]; norm_num
  have hm : (4294967276#32 : BitVec 32).toInt = -20 := by decide
  have hp : (20#32 : BitVec 32).toInt = 20 := by decide
  have hsit : ∀ w : BitVec 32, (FloatOps.sitofp (F := Ideal) FTy.f32 w) = ((w.toInt : ℝ) : EReal) := fun _ => rfl
  pointwise [grid, fraction]
  simp only [h40, hsit, hm, hp, Words.toInt_small (show j.val < 2 ^ 31 by omega)]
  push_cast
  split
  · exact Taps.grid_point j.val
  · rename_i h
    unfold Taps.offset
    rw [show j.val = 40 by omega]
    norm_num

/-- The sixteenth power at a tap. -/
theorem ratio_at {s : FVec Ideal S_ .f32} (hs : s ix0 ≠ (0 : EReal)) (j : Fin 41) :
    ratio16 s (ix1 j) = Taps.power (Taps.offset j * (s ix0 : EReal)⁻¹) := by
  pointwise [ratio16, ratio8, ratio4, ratio2, ratio]
  rw [grid_at, Taps.div_scale hs]
  rfl

/-- The forty-one samples. -/
theorem samples_at (x : FVec Ideal S8191 .f32) (k : Fin 41) : samples x (ix1 k) = Taps.sample x k := by
  pointwise [samples]
  rfl

/-- Tap `j` of output `a` reads the sample at that position. -/
theorem read_at (x : FVec Ideal S8191 .f32) (a : Fin 8191) (j : Fin 41) : read x (ix2 a j) = Taps.sample x (Taps.sampleOf a.val j) := by
  have h := ValueIdx.gather_take_apply (N := 41) (R := 8191) (C := 41) (by omega) gather_S41_S8191x41x1_S8191x41_n_0_n_n_0_2_1_wf (samples x)
    (broadcastInDim S8191x41x1 ![0, 1] bcast_S8191x41_S8191x41x1_0_1 posOf) (ix2 a j)
  refine Eq.trans h ?_
  rw [← samples_at]
  refine congrArg (samples x) (congrArg (ix1 (n0 := 41)) (Fin.ext ?_))
  show min (broadcastInDim S8191x41x1 ![0, 1] bcast_S8191x41_S8191x41x1_0_1 posOf (ix3 a j 0)).toInt.toNat 40 = (a.val + j.val) % 41
  rw [show broadcastInDim S8191x41x1 ![0, 1] bcast_S8191x41_S8191x41x1_0_1 posOf (ix3 a j 0) = posOf (ix2 a j) by pointwise, pos_at,
    Words.toInt_small (by omega)]
  omega

/-- The reference's output at `a` is the dilation there, wherever the scale is not zero. -/
theorem value_at (x : FVec Ideal S8191 .f32) {s : FVec Ideal S_ .f32} (hs : s ix0 ≠ (0 : EReal)) (a : Fin 8191) :
    value x s (ix1 a) = Taps.dilated x (s ix0) a.val := by
  pointwise [value]
  rw [Taps.start]
  simp only [read_at, ratio_at hs]
  rfl

end Cert.ReferenceIdeal.Hand

end
-- ==== Proof.Agree.lean ====
/- The two programs agree: with a scale that is not zero, the kernel's output is the reference's result, index by index. -/
module

public import proofs.«01_k».proof.Proof.KernelFrame
public import proofs.«01_k».proof.Proof.KernelValue
public import proofs.«01_k».proof.Proof.ReferenceValue
public import proofs.«01_k».proof.Proof.Gen.Pre_scale_nonzero
public import proofs.«01_k».proof.Pre_scale_nonzero

@[expose] public section

noncomputable section

namespace Cert.Proof

open Idealize.ShloMosaic

/-- What the precondition says of the scale: it is not zero. -/
theorem scale_ne_zero (x : FVec Ideal Cert.Pre_scale_nonzero.S8191 .f32) (s : FVec Ideal Cert.Pre_scale_nonzero.S_ .f32)
    (h : Cert.Pre_scale_nonzero.fn (F := Ideal) x s = fun _ => 1#1) : s ix0 ≠ (0 : EReal) := by
  intro e
  have h0 := congrFun h ix0
  have hz : Ideal.ofBits .f32 0x00000000#32 = 0 := by simp [Ideal.ofBits, Ideal.ieee]
  have hc : FloatOps.cmpf (F := Ideal) (φ := .f32) .une (s ix0) (Ideal.ofBits .f32 0x00000000#32) = 1#1 := h0
  rw [hz, e] at hc
  simp [Ideal.cmpf_def, Ideal.cmp] at hc

/-- The kernel's output is the reference's result, from arguments of one value each, with a scale that is not zero. -/
theorem agree (x : FVec Ideal ⟨1, ![8191]⟩ .f32) {s : FVec Ideal ⟨0, ![]⟩ .f32} (hs : s ix0 ≠ (0 : EReal)) :
    Cert.KernelIdeal.Hand.result (F := Ideal) (s ix0) x = Cert.ReferenceIdeal.Hand.value x s := by
  funext i
  rw [eq_ix1 i]
  exact (Cert.KernelIdeal.Hand.result_at hs x (i 0)).trans (Cert.ReferenceIdeal.Hand.value_at x hs (i 0)).symm

end Cert.Proof

end
-- ==== Proof.lean ====
/- The proof of the kernel's claims: each program's frame, and the equality of the two results wherever the scale is not zero. -/
module

public import proofs.«01_k».proof.Defs
public import proofs.«01_k».proof.Proof.PrintedFrame
public import proofs.«01_k».proof.Proof.Agree
public import Idealize.ShloMosaic.Lib.Quiescent

@[expose] public section

noncomputable section

namespace Cert.Proof

open Idealize.ShloMosaic Idealize.SL.Sem

/-- The printed kernel's frame. -/
theorem kernel_frame : Cert.quiescent_Kernel := fun m g _ => Cert.Kernel.Hand.frame m g

/-- The idealized kernel's frame. -/
theorem ideal_frame : Cert.quiescent_KernelIdeal := fun m g _ =>
  θ_run_mono (Cert.KernelIdeal.Hand.run (F := Ideal) m g) fun _ h => ⟨fun c => ⟨(h.1 c).2.1, (h.1 c).2.2⟩, h.2⟩

/-- The reference's frame: its run leaves the arguments alone, and it declares no counter. -/
theorem reference_frame : Cert.quiescent_ReferenceIdeal := fun m g _ =>
  θ_run_mono (Cert.ReferenceIdeal.Value.run (F := Ideal) m g) fun r h =>
    ⟨fun c => ⟨(h c).2.1, (h c).2.2⟩, sem_eq_zero_of_no_sems rfl r.2⟩

/-- The kernel and the reference end with equal results from equal arguments, wherever the scale is not zero. -/
theorem results_equal : Cert.algebraic_KernelIdeal_ReferenceIdeal_pre_scale_nonzero := by
  intro m g m' g' hpre hm
  refine ⟨fun c => Cert.KernelIdeal.Hand.out m c, θ_run_mono (Cert.KernelIdeal.Hand.run (F := Ideal) m g) fun _ h => h.1, ?_⟩
  refine θ_run_mono (Cert.ReferenceIdeal.Value.run (F := Ideal) m' g') fun _ h c => ⟨(h c).1.trans ?_, (h c).2⟩
  have hs := scale_ne_zero _ _ (hpre c)
  refine (Cert.ReferenceIdeal.Hand.res_eq m' c).trans ?_
  rw [(hm c).1, (hm c).2]
  exact (agree _ hs).symm

/-- Every claim. -/
theorem claim : Cert.Claim :=
  ⟨Cert.Kernel.Gen.facts, Cert.KernelIdeal.Gen.facts, Cert.ReferenceIdeal.Gen.facts, Cert.Pre_scale_nonzero.Gen.facts,
    kernel_frame, ideal_frame, fun m g _ => ideal_frame m g trivial, reference_frame, fun m g _ => reference_frame m g trivial,
    trivial, results_equal⟩

end Cert.Proof

end
